-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S2x8x56x56x49 : Shape := ⟨5, ![2, 8, 56, 56, 49]⟩
abbrev S2x56x56x9 : Shape := ⟨4, ![2, 56, 56, 9]⟩
abbrev S_ : Shape := ⟨0, ![]⟩

class Facts : Prop where
  bcast_S_S2x56x56x9 : S_.BroadcastsInDim S2x56x56x9 (![] : Fin 0 → Fin S2x56x56x9.rank)
  reducesTo_S2x56x56x9_S_d0_1_2_3 : S2x56x56x9.ReducesTo [0, 1, 2, 3] S_
  h_S_ : 0 < S_.numel

variable [Facts]

def fn {F : FTy → Type} [FloatOps F] (main_arg0 : FVec F S2x8x56x56x49 .f32) (main_arg1 : FVec F S2x56x56x9 .f32) (main_arg2 : IVec S2x56x56x9 32) : IVec S_ 1 :=
  let main_c : IVec S_ 32 := constantI S_ 32 0#32
  let main_v0 : IVec S2x56x56x9 32 := broadcastInDim S2x56x56x9 ![] bcast_S_S2x56x56x9 main_c
  let main_v1 : IVec S2x56x56x9 1 := cmpi .sge main_arg2 main_v0
  let main_c_0 : IVec S_ 32 := constantI S_ 32 49#32
  let main_v2 : IVec S2x56x56x9 32 := broadcastInDim S2x56x56x9 ![] bcast_S_S2x56x56x9 main_c_0
  let main_v3 : IVec S2x56x56x9 1 := cmpi .slt main_arg2 main_v2
  let main_v4 : IVec S2x56x56x9 1 := andi main_v1 main_v3
  let main_c_1 : IVec S_ 1 := constantI S_ 1 1#1
  let main_v5 : IVec S_ 1 := (fun x v => Host.reduce IntOp.andi x v reducesTo_S2x56x56x9_S_d0_1_2_3 h_S_) main_v4 main_c_1
  main_v5
-- ==== Kernel.lean ====
abbrev S2x8x56x56x49 : Shape := ⟨5, ![2, 8, 56, 56, 49]⟩
abbrev S2x56x56x9 : Shape := ⟨4, ![2, 56, 56, 9]⟩
abbrev S_ : Shape := ⟨0, ![]⟩
abbrev S1x1 : Shape := ⟨2, ![1, 1]⟩
abbrev S2x8x9x56x56x49 : Shape := ⟨6, ![2, 8, 9, 56, 56, 49]⟩
abbrev S1x8x1x56x49 : Shape := ⟨5, ![1, 8, 1, 56, 49]⟩
abbrev S1x56x56x9 : Shape := ⟨4, ![1, 56, 56, 9]⟩
abbrev S1x8x9x1x56x49 : Shape := ⟨6, ![1, 8, 9, 1, 56, 49]⟩
abbrev S56x49 : Shape := ⟨2, ![56, 49]⟩
abbrev S1x1x56x9 : Shape := ⟨4, ![1, 1, 56, 9]⟩
abbrev S56x9 : Shape := ⟨2, ![56, 9]⟩
abbrev S56x1 : Shape := ⟨2, ![56, 1]⟩
abbrev S56 : Shape := ⟨1, ![56]⟩
abbrev S1x49 : Shape := ⟨2, ![1, 49]⟩
abbrev S3x49 : Shape := ⟨2, ![3, 49]⟩
abbrev S62x49 : Shape := ⟨2, ![62, 49]⟩
abbrev S8x56x49 : Shape := ⟨3, ![8, 56, 49]⟩
abbrev S1x56x49 : Shape := ⟨3, ![1, 56, 49]⟩
abbrev S1x1x1x1x56x49 : Shape := ⟨6, ![1, 1, 1, 1, 56, 49]⟩

abbrev nBuf : Space → Nat
  | .hbm => 7
  | .vmem => 9
  | .smem => 0
  | _ => 0

abbrev bufTy : (tb : Table) → Fin (tcTables nBuf tb) → BufTy
  | .hbm, ⟨0, _⟩ => ⟨S2x8x56x56x49, .f32⟩
  | .hbm, ⟨1, _⟩ => ⟨S2x56x56x9, .f32⟩
  | .hbm, ⟨2, _⟩ => ⟨S2x56x56x9, .i32⟩
  | .hbm, ⟨3, _⟩ => ⟨S_, .f32⟩
  | .hbm, ⟨4, _⟩ => ⟨S_, .f32⟩
  | .hbm, ⟨5, _⟩ => ⟨S1x1, .f32⟩
  | .hbm, ⟨6, _⟩ => ⟨S2x8x9x56x56x49, .f32⟩
  | .local _ .vmem, ⟨0, _⟩ => ⟨S1x1, .f32⟩
  | .local _ .vmem, ⟨1, _⟩ => ⟨S1x8x1x56x49, .f32⟩
  | .local _ .vmem, ⟨2, _⟩ => ⟨S1x8x1x56x49, .f32⟩
  | .local _ .vmem, ⟨3, _⟩ => ⟨S1x56x56x9, .f32⟩
  | .local _ .vmem, ⟨4, _⟩ => ⟨S1x56x56x9, .f32⟩
  | .local _ .vmem, ⟨5, _⟩ => ⟨S1x56x56x9, .i32⟩
  | .local _ .vmem, ⟨6, _⟩ => ⟨S1x56x56x9, .i32⟩
  | .local _ .vmem, ⟨7, _⟩ => ⟨S1x8x9x1x56x49, .f32⟩
  | .local _ .vmem, ⟨8, _⟩ => ⟨S1x8x9x1x56x49, .f32⟩
  | _, _ => ⟨S2x8x56x56x49, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_call0_v1 : Ref sig .tc := ⟨.hbm, 5, rfl⟩
abbrev main_v0 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 56], ![false, false]⟩

def k0_off1 (i : grid0.Coords) (c0_i32 : BitVec 32) : Fin 4 → Nat :=
  let c0_2 : Index := 0#32
  let c55_i32 : BitVec 32 := 55#32
  let c0_i32_1 : BitVec 32 := 0#32
  let arg1 : BitVec 32 := BitVec.ofNat 32 (i 1).val
  let c3_i32 : BitVec 32 := 3#32
  let v3 : BitVec 32 := Scalar.subi arg1 c3_i32
  let v4 : BitVec 32 := Scalar.addi v3 c0_i32
  let v5 : BitVec 32 := Scalar.maxsi c0_i32_1 v4
  let v6 : BitVec 32 := Scalar.minsi c55_i32 v5
  let v7 : Index := Scalar.indexCast v6
  let c0_3 : Index := 0#32
  let c0_4 : Index := 0#32
  ![0, v7.toNat, 0, 0]
def k0_off2 (i : grid0.Coords) : Fin 4 → Nat :=
  let c0_132 : Index := 0#32
  let arg1 : BitVec 32 := BitVec.ofNat 32 (i 1).val
  let v899 : Index := Scalar.indexCast arg1
  let c0_133 : Index := 0#32
  let c0_134 : Index := 0#32
  ![0, v899.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 6 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, arg1.toNat, c0_i32_1.toNat, c0_i32_2.toNat]

abbrev stage0_0 : Fin 1 → Memref sig .tc .vmem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x8x1x56x49 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x56x56x9 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x56x56x9 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x8x9x1x56x49 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S2x8x56x56x49 : Shape := ⟨5, ![2, 8, 56, 56, 49]⟩
abbrev S2x56x56x9 : Shape := ⟨4, ![2, 56, 56, 9]⟩
abbrev S_ : Shape := ⟨0, ![]⟩
abbrev S56 : Shape := ⟨1, ![56]⟩
abbrev S7 : Shape := ⟨1, ![7]⟩
abbrev S56x1x1x1 : Shape := ⟨4, ![56, 1, 1, 1]⟩
abbrev S1x1x7x1 : Shape := ⟨4, ![1, 1, 7, 1]⟩
abbrev S56x1x7x1 : Shape := ⟨4, ![56, 1, 7, 1]⟩
abbrev S1x56x1x1 : Shape := ⟨4, ![1, 56, 1, 1]⟩
abbrev S1x1x1x7 : Shape := ⟨4, ![1, 1, 1, 7]⟩
abbrev S1x56x1x7 : Shape := ⟨4, ![1, 56, 1, 7]⟩
abbrev S56x56x7x7 : Shape := ⟨4, ![56, 56, 7, 7]⟩
abbrev S56x56x49 : Shape := ⟨3, ![56, 56, 49]⟩
abbrev S56x56x49x1 : Shape := ⟨4, ![56, 56, 49, 1]⟩
abbrev S56x56x49x2 : Shape := ⟨4, ![56, 56, 49, 2]⟩
abbrev S2x56x56x49x9 : Shape := ⟨5, ![2, 56, 56, 49, 9]⟩
abbrev S2x56x56x1x49x9 : Shape := ⟨6, ![2, 56, 56, 1, 49, 9]⟩
abbrev S2x56x56x9x1x1 : Shape := ⟨6, ![2, 56, 56, 9, 1, 1]⟩
abbrev S2x56x56x9x49x9 : Shape := ⟨6, ![2, 56, 56, 9, 49, 9]⟩
abbrev S2x56x56x9x49 : Shape := ⟨5, ![2, 56, 56, 9, 49]⟩
abbrev S2x9x56x56x49 : Shape := ⟨5, ![2, 9, 56, 56, 49]⟩
abbrev S2x8x1x56x56x49 : Shape := ⟨6, ![2, 8, 1, 56, 56, 49]⟩
abbrev S2x1x9x56x56x49 : Shape := ⟨6, ![2, 1, 9, 56, 56, 49]⟩
abbrev S2x8x9x56x56x49 : Shape := ⟨6, ![2, 8, 9, 56, 56, 49]⟩
abbrev S2x8x9x56x56 : Shape := ⟨5, ![2, 8, 9, 56, 56]⟩
abbrev S2x8x9x56x56x1 : Shape := ⟨6, ![2, 8, 9, 56, 56, 1]⟩

abbrev nBuf : Space → Nat
  | .hbm => 111
  | .vmem => 0
  | .smem => 0
  | _ => 0

abbrev bufTy : (tb : Table) → Fin (tcTables nBuf tb) → BufTy
  | .hbm, ⟨0, _⟩ => ⟨S2x8x56x56x49, .f32⟩
  | .hbm, ⟨1, _⟩ => ⟨S2x56x56x9, .f32⟩
  | .hbm, ⟨2, _⟩ => ⟨S2x56x56x9, .i32⟩
  | .hbm, ⟨3, _⟩ => ⟨S_, .f32⟩
  | .hbm, ⟨4, _⟩ => ⟨S_, .f32⟩
  | .hbm, ⟨5, _⟩ => ⟨S2x8x56x56x49, .f32⟩
  | .hbm, ⟨6, _⟩ => ⟨S2x8x56x56x49, .f32⟩
  | .hbm, ⟨7, _⟩ => ⟨S2x8x56x56x49, .f32⟩
  | .hbm, ⟨8, _⟩ => ⟨S56, .i32⟩
  | .hbm, ⟨9, _⟩ => ⟨S56, .i32⟩
  | .hbm, ⟨10, _⟩ => ⟨S7, .i32⟩
  | .hbm, ⟨11, _⟩ => ⟨S_, .i32⟩
  | .hbm, ⟨12, _⟩ => ⟨S7, .i32⟩
  | .hbm, ⟨13, _⟩ => ⟨S7, .i32⟩
  | .hbm, ⟨14, _⟩ => ⟨S7, .i32⟩
  | .hbm, ⟨15, _⟩ => ⟨S_, .i32⟩
  | .hbm, ⟨16, _⟩ => ⟨S7, .i32⟩
  | .hbm, ⟨17, _⟩ => ⟨S7, .i32⟩
  | .hbm, ⟨18, _⟩ => ⟨S56x1x1x1, .i32⟩
  | .hbm, ⟨19, _⟩ => ⟨S1x1x7x1, .i32⟩
  | .hbm, ⟨20, _⟩ => ⟨S56x1x7x1, .i32⟩
  | .hbm, ⟨21, _⟩ => ⟨S56x1x7x1, .i32⟩
  | .hbm, ⟨22, _⟩ => ⟨S56x1x7x1, .i32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S56x1x7x1, .i32⟩
  | .hbm, ⟨27, _⟩ => ⟨S56x1x7x1, .i32⟩
  | .hbm, ⟨28, _⟩ => ⟨S_, .i32⟩
  | .hbm, ⟨29, _⟩ => ⟨S56x1x7x1, .i32⟩
  | .hbm, ⟨30, _⟩ => ⟨S56x1x7x1, .i32⟩
  | .hbm, ⟨31, _⟩ => ⟨S1x56x1x1, .i32⟩
  | .hbm, ⟨32, _⟩ => ⟨S1x1x1x7, .i32⟩
  | .hbm, ⟨33, _⟩ => ⟨S1x56x1x7, .i32⟩
  | .hbm, ⟨34, _⟩ => ⟨S1x56x1x7, .i32⟩
  | .hbm, ⟨35, _⟩ => ⟨S1x56x1x7, .i32⟩
  | .hbm, ⟨36, _⟩ => ⟨S_, .i32⟩
  | .hbm, ⟨37, _⟩ => ⟨S_, .i32⟩
  | .hbm, ⟨38, _⟩ => ⟨S_, .i32⟩
  | .hbm, ⟨39, _⟩ => ⟨S1x56x1x7, .i32⟩
  | .hbm, ⟨40, _⟩ => ⟨S1x56x1x7, .i32⟩
  | .hbm, ⟨41, _⟩ => ⟨S_, .i32⟩
  | .hbm, ⟨42, _⟩ => ⟨S1x56x1x7, .i32⟩
  | .hbm, ⟨43, _⟩ => ⟨S1x56x1x7, .i32⟩
  | .hbm, ⟨44, _⟩ => ⟨S56x56x7x7, .i32⟩
  | .hbm, ⟨45, _⟩ => ⟨S56x56x49, .i32⟩
  | .hbm, ⟨46, _⟩ => ⟨S56x56x7x7, .i32⟩
  | .hbm, ⟨47, _⟩ => ⟨S56x56x49, .i32⟩
  | .hbm, ⟨48, _⟩ => ⟨S_, .i32⟩
  | .hbm, ⟨49, _⟩ => ⟨S56x56x49, .i32⟩
  | .hbm, ⟨50, _⟩ => ⟨S56x56x49, .i1⟩
  | .hbm, ⟨51, _⟩ => ⟨S_, .i32⟩
  | .hbm, ⟨52, _⟩ => ⟨S56x56x49, .i32⟩
  | .hbm, ⟨53, _⟩ => ⟨S56x56x49, .i32⟩
  | .hbm, ⟨54, _⟩ => ⟨S56x56x49, .i32⟩
  | .hbm, ⟨55, _⟩ => ⟨S_, .i32⟩
  | .hbm, ⟨56, _⟩ => ⟨S56x56x49, .i32⟩
  | .hbm, ⟨57, _⟩ => ⟨S56x56x49, .i1⟩
  | .hbm, ⟨58, _⟩ => ⟨S_, .i32⟩
  | .hbm, ⟨59, _⟩ => ⟨S56x56x49, .i32⟩
  | .hbm, ⟨60, _⟩ => ⟨S56x56x49, .i32⟩
  | .hbm, ⟨61, _⟩ => ⟨S56x56x49, .i32⟩
  | .hbm, ⟨62, _⟩ => ⟨S56x56x49x1, .i32⟩
  | .hbm, ⟨63, _⟩ => ⟨S56x56x49x1, .i32⟩
  | .hbm, ⟨64, _⟩ => ⟨S56x56x49x2, .i32⟩
  | .hbm, ⟨65, _⟩ => ⟨S2x56x56x49x9, .f32⟩
  | .hbm, ⟨66, _⟩ => ⟨S_, .i32⟩
  | .hbm, ⟨67, _⟩ => ⟨S56x56x49, .i32⟩
  | .hbm, ⟨68, _⟩ => ⟨S56x56x49, .i1⟩
  | .hbm, ⟨69, _⟩ => ⟨S_, .i32⟩
  | .hbm, ⟨70, _⟩ => ⟨S56x56x49, .i32⟩
  | .hbm, ⟨71, _⟩ => ⟨S56x56x49, .i32⟩
  | .hbm, ⟨72, _⟩ => ⟨S56x56x49, .i32⟩
  | .hbm, ⟨73, _⟩ => ⟨S_, .i32⟩
  | .hbm, ⟨74, _⟩ => ⟨S56x56x49, .i32⟩
  | .hbm, ⟨75, _⟩ => ⟨S56x56x49, .i1⟩
  | .hbm, ⟨76, _⟩ => ⟨S_, .i32⟩
  | .hbm, ⟨77, _⟩ => ⟨S56x56x49, .i32⟩
  | .hbm, ⟨78, _⟩ => ⟨S56x56x49, .i32⟩
  | .hbm, ⟨79, _⟩ => ⟨S56x56x49, .i32⟩
  | .hbm, ⟨80, _⟩ => ⟨S56x56x49x1, .i32⟩
  | .hbm, ⟨81, _⟩ => ⟨S56x56x49x1, .i32⟩
  | .hbm, ⟨82, _⟩ => ⟨S56x56x49x2, .i32⟩
  | .hbm, ⟨83, _⟩ => ⟨S2x56x56x49x9, .i32⟩
  | .hbm, ⟨84, _⟩ => ⟨S2x56x56x1x49x9, .i32⟩
  | .hbm, ⟨85, _⟩ => ⟨S2x56x56x9x1x1, .i32⟩
  | .hbm, ⟨86, _⟩ => ⟨S2x56x56x9x49x9, .i32⟩
  | .hbm, ⟨87, _⟩ => ⟨S2x56x56x9x49x9, .i32⟩
  | .hbm, ⟨88, _⟩ => ⟨S2x56x56x9x49x9, .i1⟩
  | .hbm, ⟨89, _⟩ => ⟨S2x56x56x1x49x9, .f32⟩
  | .hbm, ⟨90, _⟩ => ⟨S_, .f32⟩
  | .hbm, ⟨91, _⟩ => ⟨S_, .f32⟩
  | .hbm, ⟨92, _⟩ => ⟨S2x56x56x9x49x9, .f32⟩
  | .hbm, ⟨93, _⟩ => ⟨S2x56x56x9x49x9, .f32⟩
  | .hbm, ⟨94, _⟩ => ⟨S2x56x56x9x49x9, .f32⟩
  | .hbm, ⟨95, _⟩ => ⟨S_, .f32⟩
  | .hbm, ⟨96, _⟩ => ⟨S2x56x56x9x49, .f32⟩
  | .hbm, ⟨97, _⟩ => ⟨S2x9x56x56x49, .f32⟩
  | .hbm, ⟨98, _⟩ => ⟨S2x8x1x56x56x49, .f32⟩
  | .hbm, ⟨99, _⟩ => ⟨S2x1x9x56x56x49, .f32⟩
  | .hbm, ⟨100, _⟩ => ⟨S2x8x9x56x56x49, .f32⟩
  | .hbm, ⟨101, _⟩ => ⟨S2x8x9x56x56x49, .f32⟩
  | .hbm, ⟨102, _⟩ => ⟨S2x8x9x56x56x49, .f32⟩
  | .hbm, ⟨103, _⟩ => ⟨S_, .f32⟩
  | .hbm, ⟨104, _⟩ => ⟨S2x8x9x56x56, .f32⟩
  | .hbm, ⟨105, _⟩ => ⟨S2x8x9x56x56x1, .f32⟩
  | .hbm, ⟨106, _⟩ => ⟨S_, .f32⟩
  | .hbm, ⟨107, _⟩ => ⟨S2x8x9x56x56x1, .f32⟩
  | .hbm, ⟨108, _⟩ => ⟨S2x8x9x56x56x1, .f32⟩
  | .hbm, ⟨109, _⟩ => ⟨S2x8x9x56x56x49, .f32⟩
  | .hbm, ⟨110, _⟩ => ⟨S2x8x9x56x56x49, .f32⟩
  | _, _ => ⟨S2x8x56x56x49, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_c_1 : Ref sig .tc := ⟨.hbm, 23, rfl⟩
abbrev main_c_2 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c_3 : Ref sig .tc := ⟨.hbm, 36, rfl⟩
abbrev main_c_4 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_c_5 : Ref sig .tc := ⟨.hbm, 48, rfl⟩
abbrev main_v28 : Ref sig .tc := ⟨.hbm, 49, rfl⟩
abbrev main_v29 : Ref sig .tc := ⟨.hbm, 50, rfl⟩
abbrev main_c_6 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_c_7 : Ref sig .tc := ⟨.hbm, 55, rfl⟩
abbrev main_v33 : Ref sig .tc := ⟨.hbm, 56, rfl⟩
abbrev main_v34 : Ref sig .tc := ⟨.hbm, 57, rfl⟩
abbrev main_c_8 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_c_9 : Ref sig .tc := ⟨.hbm, 66, rfl⟩
abbrev main_v42 : Ref sig .tc := ⟨.hbm, 67, rfl⟩
abbrev main_v43 : Ref sig .tc := ⟨.hbm, 68, rfl⟩
abbrev main_c_10 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_c_11 : Ref sig .tc := ⟨.hbm, 73, rfl⟩
abbrev main_v47 : Ref sig .tc := ⟨.hbm, 74, rfl⟩
abbrev main_v48 : Ref sig .tc := ⟨.hbm, 75, rfl⟩
abbrev main_c_12 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_cst_13 : Ref sig .tc := ⟨.hbm, 90, rfl⟩
abbrev main_call2_v0 : Ref sig .tc := ⟨.hbm, 91, rfl⟩
abbrev main_call2_v1 : Ref sig .tc := ⟨.hbm, 92, rfl⟩
abbrev main_call2_v2 : Ref sig .tc := ⟨.hbm, 93, rfl⟩
abbrev main_v62 : Ref sig .tc := ⟨.hbm, 94, rfl⟩
abbrev main_cst_14 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_cst_15 : Ref sig .tc := ⟨.hbm, 103, rfl⟩
abbrev main_v70 : Ref sig .tc := ⟨.hbm, 104, rfl⟩
abbrev main_v71 : Ref sig .tc := ⟨.hbm, 105, rfl⟩
abbrev main_cst_16 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩

abbrev nD : Nat := 1
abbrev τ : Topo := Topo.v7x

variable {F : FTy → Type} [FloatOps F]
-- ==== Proof.Struct.lean ====
/- The kernel body's values, written with the structure the printed program has unrolled: the nine candidates of a row,
   the seven rows of a window, the forty-nine offsets, the eight heads. -/
module

public import proofs.«01_k».proof.Proof.Gen.KernelIdeal.Frame.RunA

@[expose] public section

noncomputable section

namespace Cert.KernelIdeal.Attn

open Idealize.ShloMosaic Idealize.ShloMosaic.TcCoe Idealize.SL.Sem
open Cert.KernelIdeal Cert.KernelIdeal.Gen

variable {F : FTy → Type} [FloatOps F]

/-- A single column of a row of nine candidates lies inside it. -/
theorem slice_cand (s : Fin 9) : S56x9.Slices ![0, s.val] S56x1 := by
  fin_cases s <;> decide

/-- Fifty-six rows of the padded tile starting at one of seven places lie inside it. -/
theorem slice_pad (d : Fin 7) : S62x49.Slices ![d.val, 0] S56x49 := by
  fin_cases d <;> decide

/-- A single row of a tile lies inside it. -/
theorem slice_row (r : Fin 56) : S56x49.Slices ![r.val, 0] S1x49 := by
  fin_cases r <;> decide

/-- One head of the tile of eight lies inside it. -/
theorem slice_head (n : Fin 8) : S8x56x49.Slices ![n.val, 0, 0] S1x56x49 := by
  fin_cases n <;> decide

/-- Forty-nine columns side by side make a tile. -/
theorem concat_cols {α : Type} (f : Fin 49 → (S56x1.Idx → α)) :
    Shape.Concatenates ((List.ofFn fun k : Fin 49 => (⟨S56x1, f k⟩ : (s : Shape) × (s.Idx → α))).map (·.1)) S56x49 1 := by
  have e : (List.ofFn fun k : Fin 49 => (⟨S56x1, f k⟩ : (s : Shape) × (s.Idx → α))).map (·.1)
      = List.replicate 49 S56x1 := by
    rw [List.map_ofFn]; exact List.ofFn_const 49 S56x1
  rw [e]
  exact concatenates_S56x1_S56x1_S56x1_S56x1_S56x1_S56x1_S56x1_S56x1_S56x1_S56x1_S56x1_S56x1_S56x1_S56x1_S56x1_S56x1_S56x1_S56x1_S56x1_S56x1_S56x1_S56x1_S56x1_S56x1_S56x1_S56x1_S56x1_S56x1_S56x1_S56x1_S56x1_S56x1_S56x1_S56x1_S56x1_S56x1_S56x1_S56x1_S56x1_S56x1_S56x1_S56x1_S56x1_S56x1_S56x1_S56x1_S56x1_S56x1_S56x1_S56x49_d1

/-- Where a candidate's number is the lane's. -/
def hot (ids : IVec S56x9 32) (s : Fin 9) : IVec S56x49 1 :=
  cmpi .eq (broadcastTo S56x49 (shapeCast S56x1 (shapeCast S56 (extractStridedSlice S56x1 ![0, s.val] ids (slice_cand s))
      shapeCasts_S56x1_S56) shapeCasts_S56_S56x1) broadcasts_S56x1_S56x49)
    (iota .tc S56x49 32 [1] iota_S56x49_d1_w32)

/-- A tile of zeros. -/
def zeros : FVec F S56x49 .f32 := broadcast S56x49 (Scalar.ofBits .f32 0x00000000#32)

/-- One candidate's probability on the lane of its number, zero elsewhere. -/
def spread (ids : IVec S56x9 32) (p : FVec F S56x9 .f32) (s : Fin 9) : FVec F S56x49 .f32 :=
  select (hot ids s) (broadcastTo S56x49 (shapeCast S56x1 (shapeCast S56x1 (shapeCast S56
      (extractStridedSlice S56x1 ![0, s.val] p (slice_cand s))
      shapeCasts_S56x1_S56) shapeCasts_S56_S56x1) shapeCasts_S56x1_S56x1) broadcasts_S56x1_S56x49) zeros

/-- A row of nine candidates as a tile of forty-nine lanes: each lane the sum of the candidates of its number. -/
def lanes (ids : IVec S56x9 32) (p : FVec F S56x9 .f32) : FVec F S56x49 .f32 :=
  addf (addf (addf (addf (addf (addf (addf (addf (addf zeros (spread ids p 0)) (spread ids p 1)) (spread ids p 2))
    (spread ids p 3)) (spread ids p 4)) (spread ids p 5)) (spread ids p 6)) (spread ids p 7)) (spread ids p 8)

/-- Three copies of one row of a tile. -/
def edge (r : Fin 56) (t : FVec F S56x49 .f32) : FVec F S3x49 .f32 :=
  broadcastTo S3x49 (shapeCast S1x49 (extractStridedSlice S1x49 ![r.val, 0] t (slice_row r)) shapeCasts_S1x49_S1x49)
    broadcasts_S1x49_S3x49

/-- A tile with its first and its last row repeated three times beyond its ends. -/
def padded (t : FVec F S56x49 .f32) : FVec F S62x49 .f32 :=
  concatenate S62x49 0 [⟨S3x49, edge 0 t⟩, ⟨S56x49, t⟩, ⟨S3x49, edge 55 t⟩] concatenates_S3x49_S56x49_S3x49_S62x49_d0

/-- The sum along the lanes, as a column. -/
def rowSum (t : FVec F S56x49 .f32) : FVec F S56x1 .f32 :=
  shapeCast S56x1 (multiReduction .add [1] S56 t 0x00000000#32 reduces_S56x49_S56 (.inl rfl) rfl) shapeCasts_S56_S56x1

/-- The column of one offset: the padded tile's rows from that offset on, kept on the lanes of `oh`, summed. -/
def col (oh : IVec S56x49 1) (P : FVec F S62x49 .f32) (d : Fin 7) : FVec F S56x1 .f32 :=
  rowSum (select oh (extractStridedSlice S56x49 ![d.val, 0] P (slice_pad d)) zeros)

/-- The forty-nine columns of one candidate: offset `7 j + d` from the `j`-th padded tile. -/
def matchCols (oh : IVec S56x49 1) (P : Fin 7 → FVec F S62x49 .f32) : FVec F S56x49 .f32 :=
  concatenate S56x49 1 (List.ofFn fun k : Fin 49 =>
      (⟨S56x1, col oh (P ⟨k.val / 7, by omega⟩) ⟨k.val % 7, by omega⟩⟩ : (s : Shape) × (s.Idx → F .f32)))
    (concat_cols _)

/-- A row of candidates as a matrix. -/
def cands {e : EltTy} (v : Vec F S1x1x56x9 e) : Vec F S56x9 e := shapeCast S56x9 v shapeCasts_S1x1x56x9_S56x9

/-- The exponentials of a block of scores less the greatest of all. -/
def exps (v0 : Vec F S1x1 .f32) (v1 : Vec F S1x8x1x56x49 .f32) : FVec F S8x56x49 .f32 :=
  exp (subf (shapeCast S8x56x49 v1 shapeCasts_S1x8x1x56x49_S8x56x49)
    (broadcast S8x56x49 (extractAt ![0, 0] v0 inpos_S1x1_p0_0)))

/-- One head's exponentials times a candidate's matches. -/
def prod (e : FVec F S8x56x49 .f32) (n : Fin 8) (M : FVec F S56x49 .f32) : FVec F S56x49 .f32 :=
  mulf (shapeCast S56x49 (extractStridedSlice S1x56x49 ![n.val, 0, 0] e (slice_head n)) shapeCasts_S1x56x49_S56x49) M

/-- A tile divided by its sums along the lanes, a small number added to each. -/
def normed (t : FVec F S56x49 .f32) : FVec F S1x1x1x1x56x49 .f32 :=
  shapeCast S1x1x1x1x56x49 (divf t (broadcastTo S56x49
    (addf (broadcast S56x1 (Scalar.ofBits .f32 0x2EDBE6FF#32)) (rowSum t)) broadcasts_S56x1_S56x49))
    shapeCasts_S56x49_S1x1x1x1x56x49

/-- The `j`-th window row's candidates of a staged block, as a matrix. -/
def windowRow {e : EltTy} (i : grid0.Coords) (a : Memref sig .tc .vmem S1x56x56x9 e) (ha : a.IsWhole)
    (x : Vec F S1x56x56x9 e) (j : Fin 7) : Vec F S56x9 e :=
  cands (View.readAt (Elt F) a.view (Rect.unit (s := S1x56x56x9) (k0_off1 i (BitVec.ofNat 32 j.val)) S1x1x56x9.size
    (k0_off1_inb i j)).toLoadRect (ha.unread x))

/-- The point's own row's candidates of a staged block, as a matrix. -/
def ownRow {e : EltTy} (i : grid0.Coords) (a : Memref sig .tc .vmem S1x56x56x9 e) (ha : a.IsWhole)
    (x : Vec F S1x56x56x9 e) : Vec F S56x9 e :=
  cands (View.readAt (Elt F) a.view (Rect.unit (s := S1x56x56x9) (k0_off2 i) S1x1x56x9.size
    (k0_off2_inb i)).toLoadRect (ha.unread x))

section Body

variable (i : grid0.Coords) (arg2 : Memref sig .tc .vmem S1x1 .f32) (harg2 : arg2.IsWhole)
  (arg3 : Memref sig .tc .vmem S1x8x1x56x49 .f32) (harg3 : arg3.IsWhole)
  (arg4 : Memref sig .tc .vmem S1x56x56x9 .f32) (harg4 : arg4.IsWhole)
  (arg5 : Memref sig .tc .vmem S1x56x56x9 .i32) (harg5 : arg5.IsWhole)
  (x0 : Vec F S1x1 .f32) (x1 : Vec F S1x8x1x56x49 .f32) (x2 : Vec F S1x56x56x9 .f32) (x3 : Vec F S1x56x56x9 .i32)

/-- The matches of candidate `s` at every pixel of the row and every offset. -/
def matchTile (s : Fin 9) : FVec F S56x49 .f32 :=
  matchCols (hot (ownRow (F := F) i arg5 harg5 x3) s)
    (fun j => padded (lanes (windowRow (F := F) i arg5 harg5 x3 j) (windowRow i arg4 harg4 x2 j)))

/-- The exponentials of the staged block of scores. -/
def expTile : FVec F S8x56x49 .f32 :=
  exps (View.readAt (Elt F) arg2.view (Rect.unit (s := S1x1) ![0, 0] S1x1.size inb_S1x1_S1x1_0_0).toLoadRect (harg2.unread x0))
    (View.readAt (Elt F) arg3.view (Rect.unit (s := S1x8x1x56x49) ![0, 0, 0, 0, 0] S1x8x1x56x49.size
      inb_S1x8x1x56x49_S1x8x1x56x49_0_0_0_0_0).toLoadRect (harg3.unread x1))

/-- What head `n` and candidate `s` store. -/
def outTile (n : Fin 8) (s : Fin 9) : FVec F S1x1x1x1x56x49 .f32 :=
  normed (prod (expTile arg2 harg2 arg3 harg3 x0 x1) n (matchTile i arg4 harg4 arg5 harg5 x2 x3 s))

/-- The place of head `n` and candidate `s` in the output block lies inside it. -/
theorem inb_out (n : Fin 8) (s : Fin 9) :
    ∀ a, (![0, n.val, s.val, 0, 0, 0] : Fin 6 → Nat) a + S1x1x1x1x56x49.size a ≤ S1x8x9x1x56x49.size a := by
  intro a; fin_cases a <;> simp [S1x1x1x1x56x49, S1x8x9x1x56x49, Shape.size] <;> omega

/-- The seventy-two pieces the body stores, the last first: piece `q` is that of head `7 - q / 9`, candidate `8 - q % 9`. -/
def pieces : List (View.Piece (Elt F) S1x8x9x1x56x49 .f32) :=
  List.ofFn fun q : Fin 72 =>
    ⟨Rect.unit (s := S1x8x9x1x56x49) ![0, 7 - q.val / 9, 8 - q.val % 9, 0, 0, 0] S1x1x1x1x56x49.size
        (inb_out ⟨7 - q.val / 9, by omega⟩ ⟨8 - q.val % 9, by omega⟩),
      outTile i arg2 harg2 arg3 harg3 arg4 harg4 arg5 harg5 x0 x1 x2 x3 ⟨7 - q.val / 9, by omega⟩ ⟨8 - q.val % 9, by omega⟩⟩

end Body

end Cert.KernelIdeal.Attn

end
-- ==== Proof.Pieces.lean ====
/- The pieces the kernel body's run leaves are the structured ones. -/
module

public import proofs.«01_k».proof.Proof.Struct

@[expose] public section

noncomputable section

namespace Cert.KernelIdeal.Attn

open Idealize.ShloMosaic Idealize.ShloMosaic.TcCoe Idealize.SL.Sem
open Cert.KernelIdeal Cert.KernelIdeal.Gen

variable {F : FTy → Type} [FloatOps F]

/-- What the body's run stores into its output block is the list of tiles, one for each head and candidate. -/
theorem run_pieces (c : Dev nD) (i : grid0.Coords) (arg2 : Memref sig .tc .vmem S1x1 .f32) (harg2 : arg2.IsWhole)
    (arg3 : Memref sig .tc .vmem S1x8x1x56x49 .f32) (harg3 : arg3.IsWhole)
    (arg4 : Memref sig .tc .vmem S1x56x56x9 .f32) (harg4 : arg4.IsWhole)
    (arg5 : Memref sig .tc .vmem S1x56x56x9 .i32) (harg5 : arg5.IsWhole)
    (arg6 : Memref sig .tc .vmem S1x8x9x1x56x49 .f32) (harg6 : arg6.IsWhole)
    (x0 : Vec F S1x1 .f32) (x1 : Vec F S1x8x1x56x49 .f32) (x2 : Vec F S1x56x56x9 .f32) (x3 : Vec F S1x56x56x9 .i32) :
    (kernelRun0_A c i arg2 harg2 arg3 harg3 arg4 harg4 arg5 harg5 arg6 harg6 x0 x1 x2 x3).1
      = pieces i arg2 harg2 arg3 harg3 arg4 harg4 arg5 harg5 x0 x1 x2 x3 := by
  sl_kernel_rfl

end Cert.KernelIdeal.Attn

end
-- ==== Proof.Spec.lean ====
/- What one element of the result is: the formula both programs are read to. -/
module

public import Idealize.ShloMosaic.Lib.Pointwise

@[expose] public section

noncomputable section

namespace Cert.Attn

open Idealize.ShloMosaic

/-- The neighbour at offset `d` (of seven, the fourth being no shift) of place `h`, kept inside the image. -/
def clip (h : Fin 56) (d : Fin 7) : Fin 56 := ⟨min 55 (h.val + d.val - 3), by omega⟩

/-- The row shift of offset `k` of forty-nine. -/
def rowOf (k : Fin 49) : Fin 7 := ⟨k.val / 7, by omega⟩

/-- The column shift of offset `k` of forty-nine. -/
def colOf (k : Fin 49) : Fin 7 := ⟨k.val % 7, by omega⟩

/-- One element where a choice of nine candidates has number `id`: the sum of the probabilities of those that have it. -/
def pick (id : BitVec 32) (ids : Fin 9 → BitVec 32) (p : Fin 9 → Ideal .f32) : Ideal .f32 :=
  ∑ q : Fin 9, if ids q = id then p q else 0

/-- The probability that the neighbour at offset `k` of pixel `(h, w)` has the number of the pixel's candidate `s`. -/
def cell (sims : (⟨4, ![2, 56, 56, 9]⟩ : Shape).Idx → Ideal .f32) (sinds : (⟨4, ![2, 56, 56, 9]⟩ : Shape).Idx → BitVec 32)
    (b : Fin 2) (s : Fin 9) (h w : Fin 56) (k : Fin 49) : Ideal .f32 :=
  pick (sinds (ix4 b h w s)) (fun q => sinds (ix4 b (clip h (rowOf k)) (clip w (colOf k)) q))
    (fun q => sims (ix4 b (clip h (rowOf k)) (clip w (colOf k)) q))

/-- Exponentials times probabilities over their sum, a small number added to it. -/
def ratio (e p : Fin 49 → Ideal .f32) (k : Fin 49) : Ideal .f32 :=
  Ideal.div (e k * p k) (Ideal.ofBits .f32 0x2EDBE6FF#32 + ∑ l : Fin 49, e l * p l)

/-- One element of the result, the greatest score being `c`. -/
def elem (c : Ideal .f32) (attn : (⟨5, ![2, 8, 56, 56, 49]⟩ : Shape).Idx → Ideal .f32)
    (sims : (⟨4, ![2, 56, 56, 9]⟩ : Shape).Idx → Ideal .f32) (sinds : (⟨4, ![2, 56, 56, 9]⟩ : Shape).Idx → BitVec 32)
    (b : Fin 2) (n : Fin 8) (s : Fin 9) (h w : Fin 56) (k : Fin 49) : Ideal .f32 :=
  ratio (fun l => Ideal.exp (attn (ix5 b n h w l) - c)) (fun l => cell sims sinds b s h w l) k

/-- A choice on the equality of two words. -/
theorem select_eq (x y : BitVec 32) (a b : Ideal .f32) :
    Scalar.select (IntOp.cmpi .eq x y) a b = if x = y then a else b := by
  by_cases h : x = y
  · simp [Scalar.select, IntOp.cmpi, h]
  · have : (x == y) = false := beq_eq_false_iff_ne.mpr h
    simp [Scalar.select, IntOp.cmpi, h, this]

/-- The source indices of a reduction along the last of six axes that go to one result index. -/
theorem fiber_last {n0 n1 n2 n3 n4 n5 : Nat}
    (h : (⟨6, ![n0, n1, n2, n3, n4, n5]⟩ : Shape).ReducesTo [5] ⟨5, ![n0, n1, n2, n3, n4]⟩)
    (a : Fin n0) (b : Fin n1) (c : Fin n2) (d : Fin n3) (e : Fin n4) (i : (⟨6, ![n0, n1, n2, n3, n4, n5]⟩ : Shape).Idx) :
    h.drop i = ix5 a b c d e ↔ ∃ k : Fin n5, ix6 a b c d e k = i := by
  constructor
  · intro hd
    have h0 : (i 0).val = a.val := congrArg Fin.val (congrFun hd 0)
    have h1 : (i 1).val = b.val := congrArg Fin.val (congrFun hd 1)
    have h2 : (i 2).val = c.val := congrArg Fin.val (congrFun hd 2)
    have h3 : (i 3).val = d.val := congrArg Fin.val (congrFun hd 3)
    have h4 : (i 4).val = e.val := congrArg Fin.val (congrFun hd 4)
    refine ⟨i 5, ?_⟩
    funext x; apply Fin.ext
    match x with
    | ⟨0, _⟩ => exact h0.symm
    | ⟨1, _⟩ => exact h1.symm
    | ⟨2, _⟩ => exact h2.symm
    | ⟨3, _⟩ => exact h3.symm
    | ⟨4, _⟩ => exact h4.symm
    | ⟨5, _⟩ => rfl
  · rintro ⟨k, rfl⟩
    funext x; apply Fin.ext
    match x with
    | ⟨0, _⟩ => rfl
    | ⟨1, _⟩ => rfl
    | ⟨2, _⟩ => rfl
    | ⟨3, _⟩ => rfl
    | ⟨4, _⟩ => rfl

/-- The host's sum along the last of six axes, at an index. -/
theorem sum_last {n0 n1 n2 n3 n4 n5 : Nat}
    (h : (⟨6, ![n0, n1, n2, n3, n4, n5]⟩ : Shape).ReducesTo [5] ⟨5, ![n0, n1, n2, n3, n4]⟩)
    (v : (⟨6, ![n0, n1, n2, n3, n4, n5]⟩ : Shape).Idx → EReal) (z : EReal)
    (a : Fin n0) (b : Fin n1) (c : Fin n2) (d : Fin n3) (e : Fin n4) :
    Ideal.hostReduceAdd h v z (ix5 a b c d e) = z + ∑ k : Fin n5, v (ix6 a b c d e k) :=
  congrArg (z + ·) (Finset.sum_filter_eq_sum_of_fiber _ (fun k : Fin n5 => ix6 a b c d e k)
    (fun _ _ q => congrFun q 5) (fiber_last h a b c d e) v)

end Cert.Attn

end
-- ==== Proof.Tile.lean ====
/- The kernel body's values, element by element, over the extended reals. -/
module

public import proofs.«01_k».proof.Proof.Struct
public import proofs.«01_k».proof.Proof.Spec
public import Idealize.ShloMosaic.Lib.Pointwise
public import Idealize.ShloMosaic.Lib.WholeRead

@[expose] public section

noncomputable section

namespace Cert.KernelIdeal.Attn

open Idealize.ShloMosaic Idealize.ShloMosaic.TcCoe Idealize.SL.Sem
open Cert.KernelIdeal Cert.KernelIdeal.Gen Cert.Attn

/-- A choice where a candidate's number is the lane's. -/
theorem hot_select (ids : IVec S56x9 32) (s : Fin 9) (w : Fin 56) (l : Fin 49) (a b : Ideal .f32) :
    Scalar.select (hot ids s (ix2 w l)) a b = if ids (ix2 w s) = BitVec.ofNat 32 l.val then a else b := by
  rw [← select_eq]
  pointwise [hot]

/-- One candidate's probability on the lane of its number. -/
theorem spread_apply (ids : IVec S56x9 32) (p : FVec Ideal S56x9 .f32) (s : Fin 9) (w : Fin 56) (l : Fin 49) :
    spread ids p s (ix2 w l) = if ids (ix2 w s) = BitVec.ofNat 32 l.val then p (ix2 w s) else 0 := by
  rw [← hot_select]
  pointwise [spread, zeros]

/-- A lane holds the sum of the candidates of its number. -/
theorem lanes_apply (ids : IVec S56x9 32) (p : FVec Ideal S56x9 .f32) (w : Fin 56) (l : Fin 49) :
    lanes ids p (ix2 w l) = pick (BitVec.ofNat 32 l.val) (fun q => ids (ix2 w q)) (fun q => p (ix2 w q)) := by
  have e : lanes ids p (ix2 w l) = ∑ q : Fin 9, spread ids p q (ix2 w l) := by
    pointwise [lanes, zeros]
    simp only [Fin.sum_univ_succ, Fin.sum_univ_zero, add_zero, zero_add, add_assoc]
    rfl
  rw [e]
  simp only [spread_apply]
  rfl

/-- A row of the padded tile is the tile's row kept between its ends. -/
theorem padded_apply (t : FVec Ideal S56x49 .f32) (r : Fin 62) (l : Fin 49) :
    padded t (ix2 r l) = t (ix2 ⟨min 55 (r.val - 3), by omega⟩ l) := by
  pointwise [padded, edge]
  have := r.isLt
  split
  · exact congrArg (fun x => t (ix2 x l)) (Fin.ext (by simp; omega))
  · split
    · exact congrArg (fun x => t (ix2 x l)) (Fin.ext (by simp; omega))
    · exact congrArg (fun x => t (ix2 x l)) (Fin.ext (by simp; omega))

/-- The sum along the lanes. -/
theorem rowSum_apply (t : FVec Ideal S56x49 .f32) (w : Fin 56) : rowSum t (ix2 w 0) = ∑ l : Fin 49, t (ix2 w l) := by
  pointwise [rowSum]

/-- A sum over the lanes that keeps only the lane of one number below forty-nine. -/
theorem sum_lane (id : BitVec 32) (hid : id.toNat < 49) (f : Fin 49 → Ideal .f32) :
    (∑ l : Fin 49, if id = BitVec.ofNat 32 l.val then f l else 0) = f ⟨id.toNat, hid⟩ := by
  rw [Finset.sum_eq_single ⟨id.toNat, hid⟩]
  · rw [if_pos]; simp only [BitVec.ofNat_toNat, BitVec.setWidth_eq]
  · intro l _ hl
    rw [if_neg]
    rintro rfl
    refine hl (Fin.ext ?_)
    simp only [BitVec.toNat_ofNat]
    exact (Nat.mod_eq_of_lt (by omega)).symm
  · intro h; exact absurd (Finset.mem_univ _) h

/-- A column's element: the candidates of the shifted pixel that have the number of the pixel's own. -/
theorem col_apply (own ids : IVec S56x9 32) (p : FVec Ideal S56x9 .f32) (s : Fin 9) (d : Fin 7) (w : Fin 56)
    (hid : (own (ix2 w s)).toNat < 49) :
    col (hot own s) (padded (lanes ids p)) d (ix2 w 0)
      = pick (own (ix2 w s)) (fun q => ids (ix2 (clip w d) q)) (fun q => p (ix2 (clip w d) q)) := by
  unfold col
  rw [rowSum_apply]
  have e : ∀ l : Fin 49, select (hot own s) (extractStridedSlice S56x49 ![d.val, 0] (padded (lanes ids p)) (slice_pad d)) zeros
        (ix2 w l) = if own (ix2 w s) = BitVec.ofNat 32 l.val
          then pick (BitVec.ofNat 32 l.val) (fun q => ids (ix2 (clip w d) q)) (fun q => p (ix2 (clip w d) q)) else 0 := by
    intro l
    rw [← hot_select, ← lanes_apply]
    pointwise [zeros]
    rw [padded_apply]
    have : (⟨min 55 (d.val + w.val - 3), by omega⟩ : Fin 56) = clip w d := Fin.ext (by simp [clip]; omega)
    rw [← this]
  simp only [e]
  rw [sum_lane _ hid]
  simp only [BitVec.ofNat_toNat, BitVec.setWidth_eq]

/-- The matches of one candidate at a pixel and an offset. -/
theorem matchCols_apply (own : IVec S56x9 32) (ids : Fin 7 → IVec S56x9 32) (p : Fin 7 → FVec Ideal S56x9 .f32) (s : Fin 9)
    (w : Fin 56) (k : Fin 49) (hid : (own (ix2 w s)).toNat < 49) :
    matchCols (hot own s) (fun j => padded (lanes (ids j) (p j))) (ix2 w k)
      = pick (own (ix2 w s)) (fun q => ids (rowOf k) (ix2 (clip w (colOf k)) q))
          (fun q => p (rowOf k) (ix2 (clip w (colOf k)) q)) := by
  rw [← col_apply own (ids (rowOf k)) (p (rowOf k)) s (colOf k) w hid]
  pointwise [matchCols]
  rfl

/-- One head's exponentials times a candidate's matches. -/
theorem prod_apply (e : FVec Ideal S8x56x49 .f32) (n : Fin 8) (M : FVec Ideal S56x49 .f32) (w : Fin 56) (k : Fin 49) :
    prod e n M (ix2 w k) = e (ix3 n w k) * M (ix2 w k) := by
  pointwise [prod]

/-- What a head and a candidate store, at an element. -/
theorem normed_apply (e : FVec Ideal S8x56x49 .f32) (n : Fin 8) (M : FVec Ideal S56x49 .f32) (w : Fin 56) (k : Fin 49) :
    normed (prod e n M) (ix6 0 0 0 0 w k) = ratio (fun l => e (ix3 n w l)) (fun l => M (ix2 w l)) k := by
  pointwise [normed]
  rw [rowSum_apply]
  simp only [prod_apply]
  rfl

/-- The exponential of a score less the greatest. -/
theorem exps_apply (v0 : Vec Ideal S1x1 .f32) (v1 : Vec Ideal S1x8x1x56x49 .f32) (n : Fin 8) (w : Fin 56) (k : Fin 49) :
    exps v0 v1 (ix3 n w k) = Ideal.exp (v1 (ix5 0 n 0 w k) - v0 (ix2 0 0)) := by
  pointwise [exps]

/-- The row the `j`-th load reads is the clipped one. -/
theorem off_word : ∀ (h : Fin 56) (d : Fin 7), (Scalar.indexCast (Scalar.minsi 55#32 (Scalar.maxsi 0#32
    (Scalar.addi (Scalar.subi (BitVec.ofNat 32 h.val) 3#32) (BitVec.ofNat 32 d.val))))).toNat = (clip h d).val := by
  decide +kernel

/-- A point's own row, read off its word. -/
theorem own_word : ∀ h : Fin 56, (Scalar.indexCast (BitVec.ofNat 32 h.val)).toNat = h.val := by
  decide +kernel

/-- A window row's candidates, as the block's. -/
theorem windowRow_apply {e : EltTy} (i : grid0.Coords) (a : Memref sig .tc .vmem S1x56x56x9 e) (ha : a.IsWhole)
    (x : Vec Ideal S1x56x56x9 e) (j : Fin 7) (w : Fin 56) (q : Fin 9) :
    windowRow i a ha x j (ix2 w q) = x (ix4 0 (clip (i 1) j) w q) := by
  pointwise [windowRow, cands]
  rw [Memref.IsWhole.readAt_unread]
  refine congrArg x ?_
  funext b; apply Fin.ext
  match b with
  | ⟨0, _⟩ => rfl
  | ⟨1, _⟩ => exact (Nat.add_zero _).trans (off_word (i 1) j)
  | ⟨2, _⟩ => exact (Nat.zero_add _).trans (Nat.one_mul _)
  | ⟨3, _⟩ => exact (Nat.zero_add _).trans (Nat.one_mul _)

/-- The own row's candidates, as the block's. -/
theorem ownRow_apply {e : EltTy} (i : grid0.Coords) (a : Memref sig .tc .vmem S1x56x56x9 e) (ha : a.IsWhole)
    (x : Vec Ideal S1x56x56x9 e) (w : Fin 56) (q : Fin 9) :
    ownRow i a ha x (ix2 w q) = x (ix4 0 (i 1) w q) := by
  pointwise [ownRow, cands]
  rw [Memref.IsWhole.readAt_unread]
  refine congrArg x ?_
  funext b; apply Fin.ext
  match b with
  | ⟨0, _⟩ => rfl
  | ⟨1, _⟩ => exact (Nat.add_zero _).trans (own_word (i 1))
  | ⟨2, _⟩ => exact (Nat.zero_add _).trans (Nat.one_mul _)
  | ⟨3, _⟩ => exact (Nat.zero_add _).trans (Nat.one_mul _)

/-- The tile of one head and one candidate at an element, in the arrays' blocks: the mathematics of the reference for the
pixels of row `i 1`. -/
theorem outTile_apply (i : grid0.Coords)
    (arg2 : Memref sig .tc .vmem S1x1 .f32) (harg2 : arg2.IsWhole) (arg3 : Memref sig .tc .vmem S1x8x1x56x49 .f32) (harg3 : arg3.IsWhole)
    (arg4 : Memref sig .tc .vmem S1x56x56x9 .f32) (harg4 : arg4.IsWhole) (arg5 : Memref sig .tc .vmem S1x56x56x9 .i32) (harg5 : arg5.IsWhole)
    (x0 : Vec Ideal S1x1 .f32) (x1 : Vec Ideal S1x8x1x56x49 .f32) (x2 : Vec Ideal S1x56x56x9 .f32) (x3 : Vec Ideal S1x56x56x9 .i32)
    (n : Fin 8) (s : Fin 9) (w : Fin 56) (k : Fin 49) (hid : (x3 (ix4 0 (i 1) w s)).toNat < 49) :
    outTile i arg2 harg2 arg3 harg3 arg4 harg4 arg5 harg5 x0 x1 x2 x3 n s (ix6 0 0 0 0 w k)
      = ratio (fun l => Ideal.exp (x1 (ix5 0 n 0 w l) - x0 (ix2 0 0)))
          (fun l => pick (x3 (ix4 0 (i 1) w s)) (fun q => x3 (ix4 0 (clip (i 1) (rowOf l)) (clip w (colOf l)) q))
            (fun q => x2 (ix4 0 (clip (i 1) (rowOf l)) (clip w (colOf l)) q))) k := by
  unfold outTile
  rw [normed_apply]
  have h1 : ∀ l : Fin 49, expTile arg2 harg2 arg3 harg3 x0 x1 (ix3 n w l) = Ideal.exp (x1 (ix5 0 n 0 w l) - x0 (ix2 0 0)) := by
    intro l
    unfold expTile
    rw [exps_apply, Memref.IsWhole.readAt_unread, Memref.IsWhole.readAt_unread]
    refine congrArg Ideal.exp (congrArg₂ (· - ·) (congrArg x1 (funext fun b => Fin.ext ?_)) (congrArg x0 (funext fun b => Fin.ext ?_)))
    · fin_cases b <;> exact (Nat.zero_add _).trans (Nat.one_mul _)
    · fin_cases b <;> exact (Nat.zero_add _).trans (Nat.one_mul _)
  have h2 : ∀ l : Fin 49, matchTile i arg4 harg4 arg5 harg5 x2 x3 s (ix2 w l)
      = pick (x3 (ix4 0 (i 1) w s)) (fun q => x3 (ix4 0 (clip (i 1) (rowOf l)) (clip w (colOf l)) q))
            (fun q => x2 (ix4 0 (clip (i 1) (rowOf l)) (clip w (colOf l)) q)) := by
    intro l
    unfold matchTile
    rw [matchCols_apply _ _ _ _ _ _ (by rw [ownRow_apply]; exact hid)]
    simp only [windowRow_apply]
    rw [ownRow_apply]
  simp only [h1, h2]

end Cert.KernelIdeal.Attn

end
-- ==== Proof.Block.lean ====
/- The output block a grid point leaves, element by element. -/
module

public import proofs.«01_k».proof.Proof.Pieces
public import proofs.«01_k».proof.Proof.Tile
public import proofs.«01_k».proof.Proof.Gen.KernelIdeal.Frame
public import Idealize.ShloMosaic.Lib.ValueIdxCoords

@[expose] public section

noncomputable section

namespace Cert.KernelIdeal.Attn

open Idealize.ShloMosaic Idealize.ShloMosaic.TcCoe Idealize.SL.Sem
open Cert.KernelIdeal Cert.KernelIdeal.Gen Cert.Attn

/-- A grid point's output block as one function of the blocks it is given. -/
def blockOut (h : Fin 56) (x0 : Vec Ideal S1x1 .f32) (x1 : Vec Ideal S1x8x1x56x49 .f32) (x2 : Vec Ideal S1x56x56x9 .f32)
    (x3 : Vec Ideal S1x56x56x9 .i32) : Vec Ideal S1x8x9x1x56x49 .f32 := fun y =>
  ratio (fun l => Ideal.exp (x1 (ix5 0 (y 1) 0 (y 4) l) - x0 (ix2 0 0)))
    (fun l => pick (x3 (ix4 0 h (y 4) (y 2))) (fun q => x3 (ix4 0 (clip h (rowOf l)) (clip (y 4) (colOf l)) q))
      (fun q => x2 (ix4 0 (clip h (rowOf l)) (clip (y 4) (colOf l)) q))) (y 5)

/-- The block a point leaves is that function's, where the point's own candidates have numbers below forty-nine. -/
theorem out_block (c : Dev nD) (i : grid0.Coords)
    (arg2 : Memref sig .tc .vmem S1x1 .f32) (harg2 : arg2.IsWhole) (arg3 : Memref sig .tc .vmem S1x8x1x56x49 .f32) (harg3 : arg3.IsWhole)
    (arg4 : Memref sig .tc .vmem S1x56x56x9 .f32) (harg4 : arg4.IsWhole) (arg5 : Memref sig .tc .vmem S1x56x56x9 .i32) (harg5 : arg5.IsWhole)
    (arg6 : Memref sig .tc .vmem S1x8x9x1x56x49 .f32) (harg6 : arg6.IsWhole)
    (x0 : Vec Ideal S1x1 .f32) (x1 : Vec Ideal S1x8x1x56x49 .f32) (x2 : Vec Ideal S1x56x56x9 .f32) (x3 : Vec Ideal S1x56x56x9 .i32)
    (hid : ∀ w s, (x3 (ix4 0 (i 1) w s)).toNat < 49) :
    out0_A_4 c i arg2 harg2 arg3 harg3 arg4 harg4 arg5 harg5 arg6 harg6 x0 x1 x2 x3 = blockOut (i 1) x0 x1 x2 x3 := by
  funext y
  refine View.read_writes_apply_of_pieces VO0_4 _ (blockOut (i 1) x0 x1 x2 x3) _ ?_ y
    (cover0_A_4 c i arg2 harg2 arg3 harg3 arg4 harg4 arg5 harg5 arg6 harg6 x0 x1 x2 x3 y)
  rw [run_pieces]
  intro p hp x
  obtain ⟨q, rfl⟩ := List.mem_ofFn.mp hp
  obtain ⟨a0, a1, a2, a3, w, k, rfl⟩ : ∃ (a0 a1 a2 a3 : Fin 1) (w : Fin 56) (k : Fin 49), x = ix6 a0 a1 a2 a3 w k :=
    ⟨x 0, x 1, x 2, x 3, x 4, x 5, eq_ix6 x⟩
  obtain rfl := Subsingleton.elim a0 0
  obtain rfl := Subsingleton.elim a1 0
  obtain rfl := Subsingleton.elim a2 0
  obtain rfl := Subsingleton.elim a3 0
  refine (outTile_apply i arg2 harg2 arg3 harg3 arg4 harg4 arg5 harg5 x0 x1 x2 x3 _ _ w k (hid _ _)).trans ?_
  refine (congrArg (blockOut (i 1) x0 x1 x2 x3) (?_ : _ = ix6 0 ⟨7 - q.val / 9, by omega⟩ ⟨8 - q.val % 9, by omega⟩ 0 w k)).symm
  refine Rect.emb_eq_of_coords _ _ _ fun b => ?_
  fin_cases b <;> simp [Rect.unit]

end Cert.KernelIdeal.Attn

end
-- ==== Proof.Array.lean ====
/- The output array of the whole run. -/
module

public import proofs.«01_k».proof.Proof.Block
public import proofs.«01_k».proof.Proof.Gen.KernelIdeal.Value
public import Idealize.ShloMosaic.Lib.Pipeline.Value
public import Idealize.ShloMosaic.Lib.StableHlo.Run

@[expose] public section

noncomputable section

namespace Cert.KernelIdeal.Attn

open Idealize.ShloMosaic Idealize.ShloMosaic.TcCoe Idealize.SL.Sem
open Idealize.ShloMosaic.Pipeline (Dat)
open Cert.KernelIdeal Cert.KernelIdeal.Gen Cert.Attn

variable (m : (ℓ : Loc nD τ sig) → Buf (Elt Ideal) ℓ)

/-- The greatest score, as the host computes it before the kernel starts. -/
def greatest (attn : FVec Ideal S2x8x56x56x49 .f32) : FVec Ideal S_ .f32 :=
  Host.reduce FloatOps.maximumf attn (constant S_ .f32 0xFF800000#32) reducesTo_S2x8x56x56x49_S_d0_1_2_3_4 h_S_

/-- The scores as launched. -/
abbrev attnOf (c : Dev nD) : Vec Ideal S2x8x56x56x49 .f32 := m ((c : Thread nD τ).loc main_arg0)
/-- The candidates' similarities as launched. -/
abbrev simsOf (c : Dev nD) : Vec Ideal S2x56x56x9 .f32 := m ((c : Thread nD τ).loc main_arg1)
/-- The candidates' numbers as launched. -/
abbrev sindsOf (c : Dev nD) : Vec Ideal S2x56x56x9 .i32 := m ((c : Thread nD τ).loc main_arg2)

/-- What the output array is shown to hold. -/
def whole (c : Dev nD) : Buf (Elt Ideal) ((c : Thread nD τ).loc main_v0) := fun (y : S2x8x9x56x56x49.Idx) =>
  elem (greatest (attnOf m c) (fun a => a.elim0)) (attnOf m c) (simsOf m c) (sindsOf m c) (y 0) (y 1) (y 2) (y 3) (y 4) (y 5)

/-- A single value laid out as a matrix of one element. -/
theorem cast_apply (X : FVec Ideal S_ .f32) (i : S1x1.Idx) : shapeCast S1x1 X shapeCasts_S_S1x1 i = X (fun a => a.elim0) :=
  congrArg X (funext fun a => a.elim0)

/-- What the host's operations before the kernel leave in its one-element argument, whatever they reduce by. -/
theorem after_line (f : FVec Ideal S2x8x56x56x49 .f32 → FVec Ideal S_ .f32 → FVec Ideal S_ .f32) (E : Valuation τ sig (Elt Ideal)) :
    StableHlo.after
      [ StableHlo.TRef.nullary (.of main_call0_cst : StableHlo.TRef sig ⟨S_, .f32⟩) (constant (F := Ideal) S_ .f32 0xFF800000#32),
        StableHlo.TRef.binary (.of main_arg0 : StableHlo.TRef sig ⟨S2x8x56x56x49, .f32⟩)
          (.of main_call0_cst : StableHlo.TRef sig ⟨S_, .f32⟩) (.of main_call0_v0 : StableHlo.TRef sig ⟨S_, .f32⟩) f,
        StableHlo.TRef.reshape (.of main_call0_v0 : StableHlo.TRef sig ⟨S_, .f32⟩)
          (.of main_call0_v1 : StableHlo.TRef sig ⟨S1x1, .f32⟩) (rfl : (.f32 : EltTy) = .f32) shapeCasts_S_S1x1 ]
      E (Proc.devRef .tc main_call0_v1)
    = shapeCast S1x1 (f (E (Proc.devRef .tc main_arg0)) (constant (F := Ideal) S_ .f32 0xFF800000#32)) shapeCasts_S_S1x1 := by
  after_results
  rfl

/-- The kernel's one-element argument is the greatest score laid out as a matrix. -/
theorem V_line (c : Dev nD) : V m c main_call0_v1 = shapeCast S1x1 (greatest (attnOf m c)) shapeCasts_S_S1x1 :=
  after_line (fun x v => Host.reduce FloatOps.maximumf x v reducesTo_S2x8x56x56x49_S_d0_1_2_3_4 h_S_) (fun b => m (c, b))

/-- The kernel's one-element argument holds the greatest score. -/
theorem V_greatest (c : Dev nD) (i : S1x1.Idx) :
    @Eq (Ideal .f32) (V m c main_call0_v1 i) (greatest (attnOf m c) (fun a => a.elim0)) :=
  (congrFun (V_line m c) i).trans (cast_apply _ _)

/-- The batch of a grid point. -/
abbrev bOf (t : Fin cfg0.N) : Fin 2 := grid0.coords t 0
/-- The image row of a grid point. -/
abbrev hOf (t : Fin cfg0.N) : Fin 56 := grid0.coords t 1

/-- The block index of window 1 at a point, axis by axis. -/
theorem index1 : ∀ t : Fin cfg0.N, ∀ a, win0_1.index t a = ![(bOf t).val, 0, (hOf t).val, 0, 0] a := by decide +kernel
/-- The block index of window 2 at a point, axis by axis. -/
theorem index2 : ∀ t : Fin cfg0.N, ∀ a, win0_2.index t a = ![(bOf t).val, 0, 0, 0] a := by decide +kernel
/-- The block index of window 3 at a point, axis by axis. -/
theorem index3 : ∀ t : Fin cfg0.N, ∀ a, win0_3.index t a = ![(bOf t).val, 0, 0, 0] a := by decide +kernel
/-- The block index of window 4 at a point, axis by axis. -/
theorem index4 : ∀ t : Fin cfg0.N, ∀ a, win0_4.index t a = ![(bOf t).val, 0, 0, (hOf t).val, 0, 0] a := by decide +kernel

/-- The block of scores a point is given. -/
theorem iblk1_apply (c : Dev nD) (t : Fin cfg0.N) (n : Fin 8) (w : Fin 56) (l : Fin 49) :
    (iblk m c 1 t : Vec Ideal S1x8x1x56x49 .f32) (ix5 0 n 0 w l) = attnOf m c (ix5 (bOf t) n (hOf t) w l) := by
  show V m c main_arg0 ((win0_1.rect t).emb (ix5 0 n 0 w l)) = _
  rw [V_main_arg0]
  refine congrArg (attnOf m c) (Rect.emb_eq_of_coords _ _ _ fun a => ?_)
  show _ = win0_1.index t a * win0_1.size a + 1 * _
  rw [index1 t a]
  fin_cases a <;> simp [win0_1]

/-- The block of similarities a point is given. -/
theorem iblk2_apply (c : Dev nD) (t : Fin cfg0.N) (h w : Fin 56) (q : Fin 9) :
    (iblk m c 2 t : Vec Ideal S1x56x56x9 .f32) (ix4 0 h w q) = simsOf m c (ix4 (bOf t) h w q) := by
  show V m c main_arg1 ((win0_2.rect t).emb (ix4 0 h w q)) = _
  rw [V_main_arg1]
  refine congrArg (simsOf m c) (Rect.emb_eq_of_coords _ _ _ fun a => ?_)
  show _ = win0_2.index t a * win0_2.size a + 1 * _
  rw [index2 t a]
  fin_cases a <;> simp [win0_2]

/-- The block of numbers a point is given. -/
theorem iblk3_apply (c : Dev nD) (t : Fin cfg0.N) (h w : Fin 56) (q : Fin 9) :
    (iblk m c 3 t : Vec Ideal S1x56x56x9 .i32) (ix4 0 h w q) = sindsOf m c (ix4 (bOf t) h w q) := by
  show V m c main_arg2 ((win0_3.rect t).emb (ix4 0 h w q)) = _
  rw [V_main_arg2]
  refine congrArg (sindsOf m c) (Rect.emb_eq_of_coords _ _ _ fun a => ?_)
  show _ = win0_3.index t a * win0_3.size a + 1 * _
  rw [index3 t a]
  fin_cases a <;> simp [win0_3]

/-- A constant array's block through the first window is constant. -/
theorem read0 (t : Fin cfg0.N) (X : (win0_0.blk t).view.ty.Contents (Elt Ideal)) (a : Ideal .f32)
    (hX : ∀ i : S1x1.Idx, @Eq (Ideal .f32) (X i) a) (i : S1x1.Idx) :
    @Eq (Ideal .f32) ((win0_0.blk t).view.read (Elt Ideal) X i) a := hX ((win0_0.rect t).emb i)

/-- The block of the greatest score a point is given: that score. -/
theorem iblk0_apply (c : Dev nD) (t : Fin cfg0.N) (i : S1x1.Idx) :
    (iblk m c 0 t : Vec Ideal S1x1 .f32) i = greatest (attnOf m c) (fun a => a.elim0) := by
  unfold iblk
  exact read0 t (V m c (Pipeline.arrRef spec0 0)) _ (V_greatest m c) i

/-- What a point writes back is its block of the whole array. -/
theorem flushed_eq (c : Dev nD) (hs : ∀ j, (sindsOf m c j).toNat < 49) (t : Fin cfg0.N) :
    (dats m 0 c).flushed 4 t = (win0_4.blk t).view.read (Elt Ideal) (whole m c) := by
  rw [Value.flushed4_A, out_block _ _ _ _ _ _ _ _ _ _ _ _ _ _ _ _ fun w s => by
    show ((iblk m c 3 t : Vec Ideal S1x56x56x9 .i32) (ix4 0 (hOf t) w s)).toNat < 49
    rw [iblk3_apply]; exact hs _]
  funext y
  obtain ⟨a0, n, s, a3, w, k, rfl⟩ : ∃ (a0 : Fin 1) (n : Fin 8) (s : Fin 9) (a3 : Fin 1) (w : Fin 56) (k : Fin 49),
      y = ix6 a0 n s a3 w k := ⟨y 0, y 1, y 2, y 3, y 4, y 5, eq_ix6 y⟩
  have hy : (win0_4.rect t).emb (ix6 a0 n s a3 w k) = ix6 (bOf t) n s (hOf t) w k := by
    refine Rect.emb_eq_of_coords _ _ _ fun a => ?_
    show _ = win0_4.index t a * win0_4.size a + 1 * _
    rw [index4 t a]
    fin_cases a <;> simp [win0_4]
  show blockOut (hOf t) (iblk m c 0 t) (iblk m c 1 t) (iblk m c 2 t) (iblk m c 3 t) (ix6 0 n s 0 w k)
    = whole m c ((win0_4.rect t).emb (ix6 a0 n s a3 w k))
  rw [hy]
  unfold blockOut whole elem cell
  simp only [ix6_1, ix6_2, ix6_4, ix6_5, iblk0_apply, iblk1_apply, iblk2_apply, iblk3_apply]
  rfl

/-- The grid point of a batch and a row. -/
theorem point_of : ∀ (b : Fin 2) (h : Fin 56), ∃ t : Fin cfg0.N, bOf t = b ∧ hOf t = h := by decide +kernel

/-- The points' blocks cover the output. -/
theorem cover (i : S2x8x9x56x56x49.Idx) : ∃ t : Fin cfg0.N, (cfg0.win 4).flush t = true ∧ i ∈ ((cfg0.win 4).blk t).view.set := by
  obtain ⟨t, hb, hh⟩ := point_of (i 0) (i 3)
  refine ⟨t, flush0_4 t, ?_⟩
  show i ∈ ((View.whole main_v0).slice (win0_4.rect t)).set
  rw [View.set_slice_whole, Rect.mem_set_unit]
  intro a
  show win0_4.index t a * win0_4.size a ≤ (i a : Nat) ∧ (i a : Nat) < win0_4.index t a * win0_4.size a + win0_4.size a
  rw [index4 t a, hb, hh]
  match a with
  | ⟨0, _⟩ => exact ⟨Nat.le_of_eq (Nat.mul_one _), Nat.lt_of_lt_of_eq (Nat.lt_succ_self _) (congrArg (· + 1) (Nat.mul_one _).symm)⟩
  | ⟨1, _⟩ => exact ⟨Nat.zero_le _, (i 1).isLt⟩
  | ⟨2, _⟩ => exact ⟨Nat.zero_le _, (i 2).isLt⟩
  | ⟨3, _⟩ => exact ⟨Nat.le_of_eq (Nat.mul_one _), Nat.lt_of_lt_of_eq (Nat.lt_succ_self _) (congrArg (· + 1) (Nat.mul_one _).symm)⟩
  | ⟨4, _⟩ => exact ⟨Nat.zero_le _, (i 4).isLt⟩
  | ⟨5, _⟩ => exact ⟨Nat.zero_le _, (i 5).isLt⟩

/-- The run's output array. -/
theorem arr_eq (c : Dev nD) (hs : ∀ j, (sindsOf m c j).toNat < 49) : (dats m 0 c).arrAt 4 cfg0.N = whole m c :=
  (dats m 0 c).arrAt_eq_of_cover 4 (whole m c) (fun t _ => flushed_eq m c hs t) cover

end Cert.KernelIdeal.Attn

end
-- ==== Proof.Ref.lean ====
/- The reference's result, element by element. -/
module

public import proofs.«01_k».proof.Proof.Spec
public import proofs.«01_k».proof.Proof.Gen.ReferenceIdeal.Run

@[expose] public section

noncomputable section

namespace Cert.ReferenceIdeal.Attn

open Idealize.ShloMosaic Idealize.ShloMosaic.TcCoe Idealize.SL.Sem
open Cert.ReferenceIdeal Cert.ReferenceIdeal.Gen Cert.Attn

/-- The shifts, from three before to three after. -/
def shifts : IVec S7 32 := addi (broadcastInDim S7 ![] bcast_S_S7 (constantI S_ 32 4294967293#32)) (iotaInDim S7 32 0)

/-- The neighbours' rows, over pixels and offsets. -/
def rows : IVec S56x56x49 32 :=
  shapeCast S56x56x49 (broadcastInDim S56x56x7x7 ![0, 1, 2, 3] bcast_S56x1x7x1_S56x56x7x7_0_1_2_3
    (minsi (broadcastInDim S56x1x7x1 ![] bcast_S_S56x1x7x1 (id (constantI S_ 32 55#32)))
      (maxsi (broadcastInDim S56x1x7x1 ![] bcast_S_S56x1x7x1 (id (constantI S_ 32 0#32)))
        (addi (broadcastInDim S56x1x7x1 ![0, 1, 2, 3] bcast_S56x1x1x1_S56x1x7x1_0_1_2_3
            (broadcastInDim S56x1x1x1 ![0] bcast_S56_S56x1x1x1_0 (iotaInDim S56 32 0)))
          (broadcastInDim S56x1x7x1 ![0, 1, 2, 3] bcast_S1x1x7x1_S56x1x7x1_0_1_2_3
            (broadcastInDim S1x1x7x1 ![2] bcast_S7_S1x1x7x1_2 shifts)))))) shapeCasts_S56x56x7x7_S56x56x49

/-- The neighbours' columns, over pixels and offsets. -/
def cols : IVec S56x56x49 32 :=
  shapeCast S56x56x49 (broadcastInDim S56x56x7x7 ![0, 1, 2, 3] bcast_S1x56x1x7_S56x56x7x7_0_1_2_3
    (minsi (broadcastInDim S1x56x1x7 ![] bcast_S_S1x56x1x7 (id (constantI S_ 32 55#32)))
      (maxsi (broadcastInDim S1x56x1x7 ![] bcast_S_S1x56x1x7 (id (constantI S_ 32 0#32)))
        (addi (broadcastInDim S1x56x1x7 ![0, 1, 2, 3] bcast_S1x56x1x1_S1x56x1x7_0_1_2_3
            (broadcastInDim S1x56x1x1 ![1] bcast_S56_S1x56x1x1_1 (iotaInDim S56 32 0)))
          (broadcastInDim S1x56x1x7 ![0, 1, 2, 3] bcast_S1x1x1x7_S1x56x1x7_0_1_2_3
            (broadcastInDim S1x1x1x7 ![3] bcast_S7_S1x1x1x7_3 shifts)))))) shapeCasts_S56x56x7x7_S56x56x49

/-- A coordinate that may count from the end, turned to one that counts from the start. -/
def wrapped (x : IVec S56x56x49 32) : IVec S56x56x49x1 32 :=
  broadcastInDim S56x56x49x1 ![0, 1, 2] bcast_S56x56x49_S56x56x49x1_0_1_2
    (select (cmpi .slt x (broadcastInDim S56x56x49 ![] bcast_S_S56x56x49 (constantI S_ 32 0#32)))
      (addi x (broadcastInDim S56x56x49 ![] bcast_S_S56x56x49 (constantI S_ 32 56#32))) x)

/-- Rows and columns, as the gathers take them. -/
def places : IVec S56x56x49x2 32 :=
  concatenate S56x56x49x2 3 [⟨S56x56x49x1, wrapped rows⟩, ⟨S56x56x49x1, wrapped cols⟩]
    concatenates_S56x56x49x1_S56x56x49x1_S56x56x49x2_d3

variable {F : FTy → Type} [FloatOps F]

/-- The neighbours' candidates. -/
def neigh {α : Type} (x : S2x56x56x9.Idx → α) : S2x56x56x49x9.Idx → α :=
  Host.gather gather_S2x56x56x9_S56x56x49x2_S2x56x56x49x9_04_12_n_n_12_3_2119 x places

/-- The sums over a neighbour's candidates. -/
def matched (sims : FVec F S2x56x56x9 .f32) (sinds : IVec S2x56x56x9 32) : FVec F S2x56x56x9x49 .f32 :=
  Host.reduceAdd (select
      (cmpi .eq
        (broadcastInDim S2x56x56x9x49x9 ![0, 1, 2, 3, 4, 5] bcast_S2x56x56x1x49x9_S2x56x56x9x49x9_0_1_2_3_4_5
          (broadcastInDim S2x56x56x1x49x9 ![0, 1, 2, 4, 5] bcast_S2x56x56x49x9_S2x56x56x1x49x9_0_1_2_4_5 (neigh sinds)))
        (broadcastInDim S2x56x56x9x49x9 ![0, 1, 2, 3, 4, 5] bcast_S2x56x56x9x1x1_S2x56x56x9x49x9_0_1_2_3_4_5
          (broadcastInDim S2x56x56x9x1x1 ![0, 1, 2, 3] bcast_S2x56x56x9_S2x56x56x9x1x1_0_1_2_3 sinds)))
      (broadcastInDim S2x56x56x9x49x9 ![0, 1, 2, 3, 4, 5] bcast_S2x56x56x1x49x9_S2x56x56x9x49x9_0_1_2_3_4_5
        (broadcastInDim S2x56x56x1x49x9 ![0, 1, 2, 4, 5] bcast_S2x56x56x49x9_S2x56x56x1x49x9_0_1_2_4_5 (neigh sims)))
      (broadcastInDim S2x56x56x9x49x9 ![] bcast_S_S2x56x56x9x49x9 (id (constant S_ .f32 0x00000000#32))))
    (constant S_ .f32 0x00000000#32) reducesTo_S2x56x56x9x49x9_S2x56x56x9x49_d5 h_S_

/-- Exponentials times the sums over candidates. -/
def prods (g : FVec F S_ .f32) (attn : FVec F S2x8x56x56x49 .f32) (sims : FVec F S2x56x56x9 .f32) (sinds : IVec S2x56x56x9 32) :
    FVec F S2x8x9x56x56x49 .f32 :=
  mulf (broadcastInDim S2x8x9x56x56x49 ![0, 1, 2, 3, 4, 5] bcast_S2x8x1x56x56x49_S2x8x9x56x56x49_0_1_2_3_4_5
      (broadcastInDim S2x8x1x56x56x49 ![0, 1, 3, 4, 5] bcast_S2x8x56x56x49_S2x8x1x56x56x49_0_1_3_4_5
        (Host.exp (subf attn (broadcastInDim S2x8x56x56x49 ![] bcast_S_S2x8x56x56x49 g)))))
    (broadcastInDim S2x8x9x56x56x49 ![0, 1, 2, 3, 4, 5] bcast_S2x1x9x56x56x49_S2x8x9x56x56x49_0_1_2_3_4_5
      (broadcastInDim S2x1x9x56x56x49 ![0, 2, 3, 4, 5] bcast_S2x9x56x56x49_S2x1x9x56x56x49_0_2_3_4_5
        (transpose S2x9x56x56x49 [0, 3, 1, 2, 4] (matched sims sinds) transposes_S2x56x56x9x49_S2x9x56x56x49_0_3_1_2_4)))

/-- The greatest score. -/
def greatest (attn : FVec F S2x8x56x56x49 .f32) : FVec F S_ .f32 :=
  Host.reduce FloatOps.maximumf attn (constant S_ .f32 0xFF800000#32) reducesTo_S2x8x56x56x49_S_d0_1_2_3_4 h_S_

/-- The reference's result as a function of its arguments. -/
def result (attn : FVec F S2x8x56x56x49 .f32) (sims : FVec F S2x56x56x9 .f32) (sinds : IVec S2x56x56x9 32) :
    FVec F S2x8x9x56x56x49 .f32 :=
  Host.divf (prods (greatest attn) attn sims sinds)
    (broadcastInDim S2x8x9x56x56x49 ![0, 1, 2, 3, 4, 5] bcast_S2x8x9x56x56x1_S2x8x9x56x56x49_0_1_2_3_4_5
      (addf (broadcastInDim S2x8x9x56x56x1 ![] bcast_S_S2x8x9x56x56x1 (constant S_ .f32 0x2EDBE6FF#32))
        (broadcastInDim S2x8x9x56x56x1 ![0, 1, 2, 3, 4] bcast_S2x8x9x56x56_S2x8x9x56x56x1_0_1_2_3_4
          (Host.reduceAdd (prods (greatest attn) attn sims sinds) (constant S_ .f32 0x00000000#32)
            reducesTo_S2x8x9x56x56x49_S2x8x9x56x56_d5 h_S_))))

/-- The run's result is that function of the arguments it was launched with. -/
theorem res_eq (m : (l : Loc nD τ sig) → Buf (Elt F) l) (c : Dev nD) :
    Value.res_out0 m c = result (m ((c.tc : Thread nD τ).loc main_arg0)) (m ((c.tc : Thread nD τ).loc main_arg1))
      (m ((c.tc : Thread nD τ).loc main_arg2)) := rfl

/-- A place shifted and kept inside the image, computed on words. -/
theorem clip_word : ∀ (h : Fin 56) (d : Fin 7), IntOp.minsi 55#32 (IntOp.maxsi 0#32 (IntOp.addi (BitVec.ofNat 32 h.val)
    (IntOp.addi 4294967293#32 (BitVec.ofNat 32 d.val)))) = BitVec.ofNat 32 (clip h d).val := by
  decide +kernel

/-- A place inside the image is not counted from the end. -/
theorem wrap_word : ∀ p : Fin 56, Scalar.select (IntOp.cmpi .slt (BitVec.ofNat 32 p.val) 0#32)
    (IntOp.addi (BitVec.ofNat 32 p.val) 56#32) (BitVec.ofNat 32 p.val) = BitVec.ofNat 32 p.val := by
  decide +kernel

/-- A place inside the image, read off its word and kept below the last. -/
theorem place_word : ∀ p : Fin 56, min (BitVec.ofNat 32 p.val).toInt.toNat 55 = p.val := by
  decide +kernel

/-- The row of a neighbour, as a word. -/
theorem rows_apply (h w : Fin 56) (k : Fin 49) : rows (ix3 h w k) = BitVec.ofNat 32 (clip h (rowOf k)).val := by
  pointwise [rows, shifts]
  exact clip_word h (rowOf k)

/-- The column of a neighbour, as a word. -/
theorem cols_apply (h w : Fin 56) (k : Fin 49) : cols (ix3 h w k) = BitVec.ofNat 32 (clip w (colOf k)).val := by
  pointwise [cols, shifts]
  exact clip_word w (colOf k)

/-- The gathers' rows and columns are the neighbours'. -/
theorem places_apply (h w : Fin 56) (k : Fin 49) :
    places (ix4 h w k 0) = BitVec.ofNat 32 (clip h (rowOf k)).val
      ∧ places (ix4 h w k 1) = BitVec.ofNat 32 (clip w (colOf k)).val := by
  constructor
  · pointwise [places, wrapped]
    rw [rows_apply]
    exact wrap_word _
  · pointwise [places, wrapped]
    rw [cols_apply]
    exact wrap_word _

/-- Where the gathers take an element from. -/
theorem source_eq (b : Fin 2) (h w : Fin 56) (k : Fin 49) (q : Fin 9) :
    gather_S2x56x56x9_S56x56x49x2_S2x56x56x49x9_04_12_n_n_12_3_2119.operandIdx (ix5 b h w k q) places
      = ix4 b (clip h (rowOf k)) (clip w (colOf k)) q := by
  obtain ⟨e0, e1⟩ := places_apply h w k
  generalize hd : gather_S2x56x56x9_S56x56x49x2_S2x56x56x49x9_04_12_n_n_12_3_2119 = d
  have s0 : ∀ hl, d.siIdx (ix5 b h w k q) ⟨0, hl⟩ = ix4 h w k 0 := by
    subst hd; intro hl
    funext a; match a with | ⟨0, _⟩ => rfl | ⟨1, _⟩ => rfl | ⟨2, _⟩ => rfl | ⟨3, _⟩ => rfl
  have s1 : ∀ hl, d.siIdx (ix5 b h w k q) ⟨1, hl⟩ = ix4 h w k 1 := by
    subst hd; intro hl
    funext a; match a with | ⟨0, _⟩ => rfl | ⟨1, _⟩ => rfl | ⟨2, _⟩ => rfl | ⟨3, _⟩ => rfl
  have hb : ∀ a, d.batchCoord (ix5 b h w k q) a = 0 := by
    subst hd; intro a; exact GatherDims.batchCoord_eq_zero _ _ _ List.not_mem_nil
  have o0 : d.offCoord (ix5 b h w k q) 0 = b.val := by subst hd; rfl
  have o1 : d.offCoord (ix5 b h w k q) 1 = 0 := by subst hd; rfl
  have o2 : d.offCoord (ix5 b h w k q) 2 = 0 := by subst hd; rfl
  have o3 : d.offCoord (ix5 b h w k q) 3 = q.val := by subst hd; rfl
  have t0 : d.start (ix5 b h w k q) places 0 = 0 := by subst hd; rfl
  have t3 : d.start (ix5 b h w k q) places 3 = 0 := by subst hd; rfl
  have m1 : (1 : Fin S2x56x56x9.rank) ∈ d.startIndexMap := by subst hd; decide
  have m2 : (2 : Fin S2x56x56x9.rank) ∈ d.startIndexMap := by subst hd; decide
  have i1 : d.startIndexMap.idxOf (1 : Fin S2x56x56x9.rank) = 0 := by subst hd; decide
  have i2 : d.startIndexMap.idxOf (2 : Fin S2x56x56x9.rank) = 1 := by subst hd; decide
  have z1 : S2x56x56x9.size 1 - d.sliceSizes 1 = 55 := by subst hd; rfl
  have z2 : S2x56x56x9.size 2 - d.sliceSizes 2 = 55 := by subst hd; rfl
  have t1 : d.start (ix5 b h w k q) places 1 = (clip h (rowOf k)).val := by
    unfold GatherDims.start
    rw [dif_pos m1, z1]
    simp only [i1, s0, e0]
    exact place_word _
  have t2 : d.start (ix5 b h w k q) places 2 = (clip w (colOf k)).val := by
    unfold GatherDims.start
    rw [dif_pos m2, z2]
    simp only [i2, s1, e1]
    exact place_word _
  clear hd
  funext a
  refine Fin.ext ?_
  unfold GatherDims.operandIdx
  dsimp only
  rw [hb]
  match a with
  | ⟨0, _⟩ => exact (congrArg₂ (· + 0 + ·) t0 o0).trans (by simp)
  | ⟨1, _⟩ => exact (congrArg₂ (· + 0 + ·) t1 o1).trans (by simp)
  | ⟨2, _⟩ => exact (congrArg₂ (· + 0 + ·) t2 o2).trans (by simp)
  | ⟨3, _⟩ => exact (congrArg₂ (· + 0 + ·) t3 o3).trans (by simp)

/-- The neighbours' candidates at an element. -/
theorem neigh_apply {α : Type} (x : S2x56x56x9.Idx → α) (b : Fin 2) (h w : Fin 56) (k : Fin 49) (q : Fin 9) :
    neigh x (ix5 b h w k q) = x (ix4 b (clip h (rowOf k)) (clip w (colOf k)) q) :=
  congrArg x (source_eq b h w k q)

/-- The sums over a neighbour's candidates at an element. -/
theorem matched_apply (sims : FVec Ideal S2x56x56x9 .f32) (sinds : IVec S2x56x56x9 32) (b : Fin 2) (h w : Fin 56)
    (s : Fin 9) (k : Fin 49) : matched sims sinds (ix5 b h w s k) = cell sims sinds b s h w k := by
  unfold matched
  simp only [id_eq]
  refine (sum_last reducesTo_S2x56x56x9x49x9_S2x56x56x9x49_d5 _ _ b h w s k).trans ?_
  pointwise
  simp only [neigh_apply, select_eq, cell, pick]

/-- The products at an element. -/
theorem prods_apply (g : FVec Ideal S_ .f32) (attn : FVec Ideal S2x8x56x56x49 .f32) (sims : FVec Ideal S2x56x56x9 .f32)
    (sinds : IVec S2x56x56x9 32) (b : Fin 2) (n : Fin 8) (s : Fin 9) (h w : Fin 56) (k : Fin 49) :
    prods g attn sims sinds (ix6 b n s h w k)
      = Ideal.exp (attn (ix5 b n h w k) - g ix0) * cell sims sinds b s h w k := by
  pointwise [prods]
  rw [matched_apply]

/-- The reference's result at an element. -/
theorem result_apply (attn : FVec Ideal S2x8x56x56x49 .f32) (sims : FVec Ideal S2x56x56x9 .f32) (sinds : IVec S2x56x56x9 32)
    (b : Fin 2) (n : Fin 8) (s : Fin 9) (h w : Fin 56) (k : Fin 49) :
    result attn sims sinds (ix6 b n s h w k) = elem (greatest attn ix0) attn sims sinds b n s h w k := by
  have e := fun l => prods_apply (greatest attn) attn sims sinds b n s h w l
  unfold result elem ratio
  generalize prods (greatest attn) attn sims sinds = p at e
  generalize greatest attn = g at e
  simp only [← e]
  have r := sum_last reducesTo_S2x8x9x56x56x49_S2x8x9x56x56_d5 p 0 b n s h w
  pointwise
  rw [r, zero_add]

end Cert.ReferenceIdeal.Attn

end
-- ==== Proof.Range.lean ====
/- The precondition read at an element: every candidate's number is below forty-nine. -/
module

public import proofs.«01_k».proof.Pre_in_range
public import Idealize.ShloMosaic.Lib.ReduceAll
public import Idealize.ShloMosaic.Lib.WordCmp
public import Idealize.ShloMosaic.PureOps.Ideal

@[expose] public section

noncomputable section

namespace Cert.Pre_in_range

open Idealize.ShloMosaic

/-- The function's side conditions hold. -/
theorem facts : Facts := ⟨by decide, by decide, by decide⟩

/-- A word that the two signed comparisons accept is below forty-nine. -/
theorem word_lt (x : BitVec 32) (h : IntOp.andi (IntOp.cmpi .sge x 0#32) (IntOp.cmpi .slt x 49#32) = 1#1) : x.toNat < 49 := by
  rw [show IntOp.cmpi .sge x 0#32 = BitVec.ofBool (decide ((0#32).toInt ≤ x.toInt)) from rfl,
    show IntOp.cmpi .slt x 49#32 = BitVec.ofBool (decide (x.toInt < (49#32).toInt)) from rfl] at h
  have z : (0#32).toInt = 0 := rfl
  have f : (49#32).toInt = 49 := rfl
  rw [z, f] at h
  have hx := x.isLt
  by_cases h1 : 0 ≤ x.toInt <;> by_cases h2 : x.toInt < 49
  · rw [BitVec.toInt_eq_toNat_cond] at h1 h2
    split at h1 <;> omega
  all_goals simp [h1, h2, IntOp.andi] at h

/-- Where the precondition is true every number is below forty-nine. -/
theorem lt_of_fn [Facts] (a : FVec Ideal S2x8x56x56x49 .f32) (p : FVec Ideal S2x56x56x9 .f32) (s : IVec S2x56x56x9 32)
    (h : fn (F := Ideal) a p s = fun _ => 1#1) (i : S2x56x56x9.Idx) : (s i).toNat < 49 := by
  haveI : Subsingleton S_.Idx := ⟨fun x y => funext fun b => b.elim0⟩
  exact word_lt _ (Host.reduce_andi_all _ _ _ _ (fun b => b.elim0) (congrFun h _) i)

end Cert.Pre_in_range

end
-- ==== Proof.lean ====
/- The certificate's claims, assembled: the frames of the kernel, of its ideal reading and of the reference; the ideal
   reading itself; and that kernel and reference compute the same array over the extended reals where every candidate's
   number is one of the forty-nine. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Array
public import proofs.«01_k».proof.Proof.Ref
public import proofs.«01_k».proof.Proof.Range
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- Both programs take the same greatest score. -/
theorem greatest_eq (attn : FVec Ideal Cert.KernelIdeal.S2x8x56x56x49 .f32) :
    Cert.ReferenceIdeal.Attn.greatest attn ix0 = Cert.KernelIdeal.Attn.greatest attn (fun a => a.elim0) := by
  have h : Cert.ReferenceIdeal.Attn.greatest attn = Cert.KernelIdeal.Attn.greatest attn := by
    unfold Cert.ReferenceIdeal.Attn.greatest Cert.KernelIdeal.Attn.greatest
    rfl
  rw [h]
  exact congrArg (Cert.KernelIdeal.Attn.greatest attn) (funext fun a => a.elim0)

/-- What the kernel's output array is shown to hold is the reference's result. -/
theorem whole_eq (m : (ℓ : Loc Cert.KernelIdeal.nD Cert.KernelIdeal.τ Cert.KernelIdeal.sig) → Buf (Elt Ideal) ℓ) (c : Dev Cert.KernelIdeal.nD) :
    @Eq (FVec Ideal Cert.KernelIdeal.S2x8x9x56x56x49 .f32)
      (Cert.ReferenceIdeal.Attn.result (F := Ideal) (Cert.KernelIdeal.Attn.attnOf m c) (Cert.KernelIdeal.Attn.simsOf m c)
        (Cert.KernelIdeal.Attn.sindsOf m c)) (Cert.KernelIdeal.Attn.whole m c) := by
  funext y
  obtain ⟨b, n, s, h, w, k, rfl⟩ : ∃ (b : Fin 2) (n : Fin 8) (s : Fin 9) (h w : Fin 56) (k : Fin 49), y = ix6 b n s h w k :=
    ⟨y 0, y 1, y 2, y 3, y 4, y 5, ValueIdx.eq_ix6 y⟩
  refine (Cert.ReferenceIdeal.Attn.result_apply _ _ _ b n s h w k).trans ?_
  rw [greatest_eq]
  rfl

/-- The reference's run leaves its arguments and ends quiet. -/
theorem frame_ref (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  (θ_run Cert.ReferenceIdeal.defs _ _).mono (fun r h => ⟨fun c => ⟨(h c).2.1, (h c).2.2.1, (h c).2.2.2⟩,
    Idealize.ShloMosaic.sem_eq_zero_of_no_sems (by decide) r.2⟩) (Cert.ReferenceIdeal.Value.run (F := Ideal) m ρ)

/-- The kernel computes the reference's result where every number is below forty-nine. -/
theorem agree : Cert.algebraic_KernelIdeal_ReferenceIdeal_pre_in_range (hKernelIdeal := Cert.KernelIdeal.Gen.facts)
    (hReferenceIdeal := Cert.ReferenceIdeal.Gen.facts) (hPre_in_range := Cert.Pre_in_range.facts) := by
  intro m g m' g' hpre hag
  refine ⟨fun c => Cert.KernelIdeal.Attn.whole m c, ?_, ?_⟩
  · refine (θ_run Cert.KernelIdeal.defs _ _).mono (fun r h c => ⟨(h c).1.trans (Cert.KernelIdeal.Attn.arr_eq m c ?_), (h c).2⟩)
      (Cert.KernelIdeal.Value.run_blocks (F := Ideal) m g)
    exact @Cert.Pre_in_range.lt_of_fn Cert.Pre_in_range.facts _ _ _ (hpre c)
  · refine (θ_run Cert.ReferenceIdeal.defs _ _).mono (fun r h c => ⟨(h c).1.trans ?_, (h c).2⟩)
      (Cert.ReferenceIdeal.Value.run (F := Ideal) m' g')
    refine (Cert.ReferenceIdeal.Attn.res_eq m' c).trans ?_
    rw [(hag c).1, (hag c).2.1, (hag c).2.2]
    exact whole_eq m c

/-- Every claim of the certificate. -/
theorem claim : Cert.Claim :=
  ⟨Cert.Kernel.Gen.facts, Cert.KernelIdeal.Gen.facts, Cert.ReferenceIdeal.Gen.facts, Cert.Pre_in_range.facts,
    fun m ρ _ => Cert.Kernel.Gen.frame m ρ, fun m ρ _ => Cert.KernelIdeal.Gen.frame m ρ, fun m ρ _ => Cert.KernelIdeal.Gen.frame m ρ,
    fun m ρ _ => frame_ref m ρ, fun m ρ _ => frame_ref m ρ, trivial, agree⟩

end Cert.Proof

end
